-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x2048 : Shape := ⟨3, ![6, 4096, 2048]⟩
abbrev S6x4096x1 : Shape := ⟨3, ![6, 4096, 1]⟩
abbrev S2048x4608 : Shape := ⟨2, ![2048, 4608]⟩
abbrev S1x4608 : Shape := ⟨2, ![1, 4608]⟩
abbrev S6x4096x4608 : Shape := ⟨3, ![6, 4096, 4608]⟩
abbrev S24576x2048 : Shape := ⟨2, ![24576, 2048]⟩
abbrev S6x1x4096 : Shape := ⟨3, ![6, 1, 4096]⟩
abbrev S24576x4608 : Shape := ⟨2, ![24576, 4608]⟩
abbrev S512x2048 : Shape := ⟨2, ![512, 2048]⟩
abbrev S1x1x512 : Shape := ⟨3, ![1, 1, 512]⟩
abbrev S512x4608 : Shape := ⟨2, ![512, 4608]⟩
abbrev S256x2048 : Shape := ⟨2, ![256, 2048]⟩
abbrev S1x1x128 : Shape := ⟨3, ![1, 1, 128]⟩
abbrev S1x128 : Shape := ⟨2, ![1, 128]⟩
abbrev S128x128 : Shape := ⟨2, ![128, 128]⟩
abbrev S256x128 : Shape := ⟨2, ![256, 128]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S6x4096x2048, .fp8e4m3⟩
  | .hbm, ⟨1, _⟩ => ⟨S6x4096x1, .f32⟩
  | .hbm, ⟨2, _⟩ => ⟨S2048x4608, .fp8e4m3⟩
  | .hbm, ⟨3, _⟩ => ⟨S1x4608, .f32⟩
  | .hbm, ⟨4, _⟩ => ⟨S6x4096x4608, .bf16⟩
  | .hbm, ⟨5, _⟩ => ⟨S24576x2048, .fp8e4m3⟩
  | .hbm, ⟨6, _⟩ => ⟨S6x1x4096, .f32⟩
  | .hbm, ⟨7, _⟩ => ⟨S24576x4608, .bf16⟩
  | .hbm, ⟨8, _⟩ => ⟨S24576x4608, .fp8e4m3⟩
  | .hbm, ⟨9, _⟩ => ⟨S6x1x4096, .f32⟩
  | .local _ .vmem, ⟨0, _⟩ => ⟨S512x2048, .fp8e4m3⟩
  | .local _ .vmem, ⟨1, _⟩ => ⟨S512x2048, .fp8e4m3⟩
  | .local _ .vmem, ⟨2, _⟩ => ⟨S1x1x512, .f32⟩
  | .local _ .vmem, ⟨3, _⟩ => ⟨S1x1x512, .f32⟩
  | .local _ .vmem, ⟨4, _⟩ => ⟨S2048x4608, .fp8e4m3⟩
  | .local _ .vmem, ⟨5, _⟩ => ⟨S1x4608, .f32⟩
  | .local _ .vmem, ⟨6, _⟩ => ⟨S512x4608, .bf16⟩
  | .local _ .vmem, ⟨7, _⟩ => ⟨S512x4608, .bf16⟩
  | .local _ .vmem, ⟨8, _⟩ => ⟨S512x4608, .fp8e4m3⟩
  | .local _ .vmem, ⟨9, _⟩ => ⟨S512x4608, .fp8e4m3⟩
  | .local _ .vmem, ⟨10, _⟩ => ⟨S1x1x512, .f32⟩
  | .local _ .vmem, ⟨11, _⟩ => ⟨S1x1x512, .f32⟩
  | .local _ .vmem, ⟨12, _⟩ => ⟨S512x4608, .f32⟩
  | _, _ => ⟨S6x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4608 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6x4096x2048 : Shape := ⟨3, ![6, 4096, 2048]⟩
abbrev S6x4096x1 : Shape := ⟨3, ![6, 4096, 1]⟩
abbrev S2048x4608 : Shape := ⟨2, ![2048, 4608]⟩
abbrev S1x4608 : Shape := ⟨2, ![1, 4608]⟩
abbrev S6x4096x4608 : Shape := ⟨3, ![6, 4096, 4608]⟩
abbrev S24576x2048 : Shape := ⟨2, ![24576, 2048]⟩
abbrev S24576x1 : Shape := ⟨2, ![24576, 1]⟩
abbrev S24576x4608 : Shape := ⟨2, ![24576, 4608]⟩
abbrev S6x1x4096 : Shape := ⟨3, ![6, 1, 4096]⟩
abbrev S24576 : Shape := ⟨1, ![24576]⟩

abbrev nBuf : Space → Nat
  | .hbm => 10
  | .vmem => 7
  | .smem => 0
  | _ => 0

abbrev bufTy : (tb : Table) → Fin (tcTables nBuf tb) → BufTy
  | .hbm, ⟨0, _⟩ => ⟨S6x4096x2048, .fp8e4m3⟩
  | .hbm, ⟨1, _⟩ => ⟨S6x4096x1, .f32⟩
  | .hbm, ⟨2, _⟩ => ⟨S2048x4608, .fp8e4m3⟩
  | .hbm, ⟨3, _⟩ => ⟨S1x4608, .f32⟩
  | .hbm, ⟨4, _⟩ => ⟨S6x4096x4608, .bf16⟩
  | .hbm, ⟨5, _⟩ => ⟨S24576x2048, .fp8e4m3⟩
  | .hbm, ⟨6, _⟩ => ⟨S24576x1, .f32⟩
  | .hbm, ⟨7, _⟩ => ⟨S24576x4608, .bf16⟩
  | .hbm, ⟨8, _⟩ => ⟨S24576x4608, .fp8e4m3⟩
  | .hbm, ⟨9, _⟩ => ⟨S6x1x4096, .f32⟩
  | .local _ .vmem, ⟨0, _⟩ => ⟨S24576x2048, .fp8e4m3⟩
  | .local _ .vmem, ⟨1, _⟩ => ⟨S24576x1, .f32⟩
  | .local _ .vmem, ⟨2, _⟩ => ⟨S2048x4608, .fp8e4m3⟩
  | .local _ .vmem, ⟨3, _⟩ => ⟨S1x4608, .f32⟩
  | .local _ .vmem, ⟨4, _⟩ => ⟨S24576x4608, .bf16⟩
  | .local _ .vmem, ⟨5, _⟩ => ⟨S24576x4608, .fp8e4m3⟩
  | .local _ .vmem, ⟨6, _⟩ => ⟨S6x1x4096, .f32⟩
  | _, _ => ⟨S6x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x4608 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
/-
  THE SCALE OF A ROW, over the extended reals. From `q = amax / 448` the kernel finds the exponent field of `q` by a
  binary search against powers of two and builds `2^e` and `2^(-e)` from the field; the reference takes
  `e = ⌊log q / log 2⌋ + 1`. Both treat a `q` below `2^-126` or from `2^126` on as `e = 0`. This module states the two
  computations on one number and proves that they give the same two powers (`kScale_eq`, `kInv_eq`).
-/
module

public import Idealize.ShloMosaic.Lib.Pointwise

@[expose] public section

noncomputable section

namespace Cert.Requant

open Idealize.ShloMosaic

/-! ## The powers of two the fields stand for -/

/-- The number whose f32 pattern has exponent field `n` and nothing else: `2^(n - 127)` for `1 ≤ n ≤ 254`. -/
def thr (n : ℕ) : EReal := Ideal.ofBits .f32 (BitVec.ofNat 32 n <<< (23#32).toNat)

/-- The fields of such a pattern: sign 0, exponent `n`, fraction 0. -/
theorem fields (n : ℕ) (h : n < 256) :
    (BitVec.ofNat 32 n <<< (23#32).toNat).extractLsb' 31 1 = 0#1 ∧
    ((BitVec.ofNat 32 n <<< (23#32).toNat).extractLsb' 23 8).toNat = n ∧
    ((BitVec.ofNat 32 n <<< (23#32).toNat).extractLsb' 0 23).toNat = 0 := by
  have key : ∀ k : Fin 256, (BitVec.ofNat 32 k <<< (23#32).toNat).extractLsb' 31 1 = 0#1 ∧
    ((BitVec.ofNat 32 k <<< (23#32).toNat).extractLsb' 23 8).toNat = k ∧
    ((BitVec.ofNat 32 k <<< (23#32).toNat).extractLsb' 0 23).toNat = 0 := by decide +kernel
  exact key ⟨n, h⟩

/-- The pattern read: an all-ones field is `∞`, a field 0 is 0, any other `2^23 · 2^(n - 150)`. -/
theorem thr_field (n : ℕ) (h : n < 256) :
    thr n = if n = 255 then ⊤ else if n = 0 then ((0 : ℝ) : EReal)
      else (((8388608 : ℝ) * (2 : ℝ) ^ ((n : ℤ) - 127 - 23) : ℝ) : EReal) := by
  obtain ⟨hs, he, hf⟩ := fields n h
  unfold thr
  generalize BitVec.ofNat 32 n <<< (23#32).toNat = b at hs he hf ⊢
  show Ideal.ieee 8 23 b = _
  unfold Ideal.ieee
  have hs' : BitVec.extractLsb' (8 + 23) 1 b = 0#1 := hs
  simp only [hs', he, hf, show (0#1 == 1#1) = false from rfl, if_true, Bool.false_eq_true, if_false, Nat.cast_zero,
    mul_zero, zero_mul, Nat.add_zero, one_mul]
  norm_num

/-- For `1 ≤ n ≤ 254` the pattern denotes `2^(n - 127)`. -/
theorem thr_eq (n : ℕ) (h1 : 1 ≤ n) (h2 : n ≤ 254) : thr n = (((2 : ℝ) ^ ((n : ℤ) - 127) : ℝ) : EReal) := by
  rw [thr_field n (by omega), if_neg (by omega), if_neg (by omega)]
  congr 1
  have h23 : (2 : ℝ) ^ ((n : ℤ) - 127 - 23) = 2 ^ ((n : ℤ) - 127) * (2 : ℝ) ^ (-23 : ℤ) := by
    rw [← zpow_add₀ (by norm_num)]; congr 1
  rw [h23]
  have h1 : (8388608 : ℝ) * (2 : ℝ) ^ (-23 : ℤ) = 1 := by norm_num
  rw [mul_left_comm, h1, mul_one]

/-- The powers grow with the field. -/
theorem thr_mono {a b : ℕ} (ha : 1 ≤ a) (hab : a ≤ b) (hb : b ≤ 254) : thr a ≤ thr b := by
  rw [thr_eq a ha (by omega), thr_eq b (by omega) hb]
  exact EReal.coe_le_coe_iff.mpr (zpow_le_zpow_right₀ (by norm_num) (by omega))

/-! ## The kernel's search -/

/-- One comparison of the search: the field takes the bit `s` when `q` reaches the power of the field with it. -/
def kStep (q : EReal) (b s : BitVec 32) : BitVec 32 :=
  Scalar.select (Ideal.cmp .oge q (Ideal.ofBits .f32 (IntOp.shli .vector (b + s) 23#32))) (b + s) b

/-- The search: eight comparisons, from the field's highest bit to its lowest. -/
def kField (q : EReal) : BitVec 32 :=
  kStep q (kStep q (kStep q (kStep q (kStep q (kStep q (kStep q (kStep q 0#32 128#32) 64#32) 32#32) 16#32) 8#32) 4#32)
    2#32) 1#32

/-- `b` is a field found so far, the rest of the field to be found below `w`. -/
def Found (q : EReal) (b : BitVec 32) (w : ℕ) : Prop :=
  ∃ n : ℕ, b = BitVec.ofNat 32 n ∧ n + w ≤ 256 ∧ (n = 0 ∨ thr n ≤ q) ∧ (n + w = 256 ∨ q < thr (n + w))

/-- A comparison halves what is left to find. -/
theorem kStep_found (q : EReal) (b : BitVec 32) (w : ℕ) (hw : 0 < w) (h : Found q b (w + w)) :
    Found q (kStep q b (BitVec.ofNat 32 w)) w := by
  obtain ⟨n, rfl, hn, hlo, hhi⟩ := h
  have hadd : BitVec.ofNat 32 n + BitVec.ofNat 32 w = BitVec.ofNat 32 (n + w) := by
    rw [BitVec.ofNat_add]
  have hsh : IntOp.shli .vector (BitVec.ofNat 32 (n + w)) 23#32 = BitVec.ofNat 32 (n + w) <<< (23#32).toNat := by
    unfold IntOp.shli; rw [if_pos (by decide)]; rfl
  unfold kStep
  rw [hadd, hsh]
  change Found q (Scalar.select (Ideal.cmp .oge q (thr (n + w))) _ _) w
  unfold Scalar.select Ideal.cmp
  by_cases hq : thr (n + w) ≤ q
  · rw [if_pos (by simp [hq])]
    exact ⟨n + w, rfl, by omega, .inr hq, by rcases hhi with h | h; exacts [.inl (by omega), .inr (by rwa [add_assoc])]⟩
  · rw [if_neg (by simp [hq])]
    exact ⟨n, rfl, by omega, hlo, .inr (not_le.mp hq)⟩

/-- The field the search ends with: `2^(n-127) ≤ q < 2^(n-126)`, but for `n = 0` no lower and for `n = 255` no upper
    bound. -/
theorem kField_found (q : EReal) : Found q (kField q) 1 := by
  have h0 : Found q 0#32 (128 + 128) := ⟨0, rfl, by norm_num, .inl rfl, .inl (by norm_num)⟩
  have h1 := kStep_found q _ 128 (by norm_num) h0
  have h2 := kStep_found q _ 64 (by norm_num) h1
  have h3 := kStep_found q _ 32 (by norm_num) h2
  have h4 := kStep_found q _ 16 (by norm_num) h3
  have h5 := kStep_found q _ 8 (by norm_num) h4
  have h6 := kStep_found q _ 4 (by norm_num) h5
  have h7 := kStep_found q _ 2 (by norm_num) h6
  exact kStep_found q _ 1 (by norm_num) h7

/-- The exponent from the field: a field from 253 on counts as 255, a field 0 or 255 gives 0. -/
def kExp (b : BitVec 32) : BitVec 32 :=
  Scalar.select
    (IntOp.ori (IntOp.cmpi .eq (Scalar.select (IntOp.cmpi .sge b 253#32) 255#32 b) 0#32)
      (IntOp.cmpi .eq (Scalar.select (IntOp.cmpi .sge b 253#32) 255#32 b) 255#32))
    0#32 (Scalar.select (IntOp.cmpi .sge b 253#32) 255#32 b - 126#32)

/-- `2^e` as the kernel builds it from the exponent. -/
def kScale (q : EReal) : EReal := Ideal.ofBits .f32 (IntOp.shli .vector (kExp (kField q) + 127#32) 23#32)

/-- `2^(-e)` as the kernel builds it from the exponent. -/
def kInv (q : EReal) : EReal := Ideal.ofBits .f32 (IntOp.shli .vector (0#32 - kExp (kField q) + 127#32) 23#32)

/-- The word the kernel's `2^e` is read from, by the field. -/
theorem scale_word (n : ℕ) (h : n < 256) :
    IntOp.shli .vector (kExp (BitVec.ofNat 32 n) + 127#32) 23#32
      = BitVec.ofNat 32 (if 1 ≤ n ∧ n ≤ 252 then n + 1 else 127) <<< (23#32).toNat := by
  have hsh : ∀ x : BitVec 32, IntOp.shli .vector x 23#32 = x <<< (23#32).toNat := by
    intro x; unfold IntOp.shli; rw [if_pos (by decide)]; rfl
  rw [hsh]; congr 1
  have key : ∀ k : Fin 256, kExp (BitVec.ofNat 32 k) + 127#32
      = BitVec.ofNat 32 (if 1 ≤ k.val ∧ k.val ≤ 252 then k.val + 1 else 127) := by decide +kernel
  exact key ⟨n, h⟩

/-- The word the kernel's `2^(-e)` is read from, by the field. -/
theorem inv_word (n : ℕ) (h : n < 256) :
    IntOp.shli .vector (0#32 - kExp (BitVec.ofNat 32 n) + 127#32) 23#32
      = BitVec.ofNat 32 (if 1 ≤ n ∧ n ≤ 252 then 253 - n else 127) <<< (23#32).toNat := by
  have hsh : ∀ x : BitVec 32, IntOp.shli .vector x 23#32 = x <<< (23#32).toNat := by
    intro x; unfold IntOp.shli; rw [if_pos (by decide)]; rfl
  rw [hsh]; congr 1
  have key : ∀ k : Fin 256, 0#32 - kExp (BitVec.ofNat 32 k) + 127#32
      = BitVec.ofNat 32 (if 1 ≤ k.val ∧ k.val ≤ 252 then 253 - k.val else 127) := by decide +kernel
  exact key ⟨n, h⟩

/-! ## The reference's exponent -/

/-- The reference's exponent: `⌊log q / log 2⌋ + 1` for `2^-126 ≤ q < 2^126`, else 0. -/
def rExp (q : EReal) : EReal :=
  Scalar.select
    (IntOp.ori (Ideal.cmp .olt q (Ideal.ofBits .f32 0x00800000#32)) (Ideal.cmp .oge q (Ideal.ofBits .f32 0x7E800000#32)))
    (Ideal.ofBits .f32 0x00000000#32)
    (Ideal.liftRound Int.floor (Ideal.div (Ideal.log q) (Ideal.log (Ideal.ofBits .f32 0x40000000#32)))
      + Ideal.ofBits .f32 0x3F800000#32)

/-- The pattern of 1 denotes 1, -/
theorem one_f32 : Ideal.ofBits .f32 0x3F800000#32 = ((1 : ℝ) : EReal) := by
  have h : Ideal.ofBits .f32 0x3F800000#32 = thr 127 := by unfold thr; congr 1
  rw [h, thr_eq 127 (by norm_num) (by norm_num)]; norm_num

/-- that of 2 denotes 2, -/
theorem two_f32 : Ideal.ofBits .f32 0x40000000#32 = ((2 : ℝ) : EReal) := by
  have h : Ideal.ofBits .f32 0x40000000#32 = thr 128 := by unfold thr; congr 1
  rw [h, thr_eq 128 (by norm_num) (by norm_num)]; norm_num

/-- that of 0 denotes 0. -/
theorem zero_f32 : Ideal.ofBits .f32 0x00000000#32 = ((0 : ℝ) : EReal) := by
  rw [Ideal.ofBits_zero_f32]; rfl

/-- The floor of the binary logarithm of a number of the binade `[2^k, 2^(k+1))`. -/
theorem floor_log (r : ℝ) (k : ℤ) (h1 : (2 : ℝ) ^ k ≤ r) (h2 : r < (2 : ℝ) ^ (k + 1)) :
    ⌊Real.log r * (Real.log 2)⁻¹⌋ = k := by
  have hr : 0 < r := lt_of_lt_of_le (by positivity) h1
  have hl : 0 < Real.log 2 := Real.log_pos (by norm_num)
  rw [Int.floor_eq_iff, ← div_eq_mul_inv]
  constructor
  · rw [le_div_iff₀ hl, ← Real.log_zpow]
    exact Real.log_le_log (by positivity) h1
  · rw [div_lt_iff₀ hl]
    have : ((k : ℝ) + 1) * Real.log 2 = Real.log ((2 : ℝ) ^ (k + 1)) := by
      rw [Real.log_zpow]; push_cast; ring
    rw [this]
    exact Real.log_lt_log hr h2

/-- The reference's exponent by the field of `q`. -/
theorem rExp_eq (q : EReal) (n : ℕ) (hn : n < 256) (hlo : n = 0 ∨ thr n ≤ q) (hhi : n + 1 = 256 ∨ q < thr (n + 1)) :
    rExp q = (((if 1 ≤ n ∧ n ≤ 252 then (n : ℤ) - 126 else 0 : ℤ) : ℝ) : EReal) := by
  have hA : Ideal.ofBits .f32 0x00800000#32 = thr 1 := by unfold thr; congr 1
  have hB : Ideal.ofBits .f32 0x7E800000#32 = thr 253 := by unfold thr; congr 1
  unfold rExp
  rw [hA, hB]
  by_cases hm : 1 ≤ n ∧ n ≤ 252
  · obtain ⟨m1, m2⟩ := hm
    have q1 : thr n ≤ q := by rcases hlo with h | h; exacts [by omega, h]
    have q2 : q < thr (n + 1) := by rcases hhi with h | h; exacts [by omega, h]
    have c1 : ¬ q < thr 1 := not_lt.mpr ((thr_mono le_rfl m1 (by omega)).trans q1)
    have c2 : ¬ thr 253 ≤ q := not_le.mpr (q2.trans_le (thr_mono (by omega) (by omega) (by omega)))
    rw [if_pos ⟨m1, m2⟩]
    rw [thr_eq n m1 (by omega)] at q1
    rw [thr_eq (n + 1) (by omega) (by omega)] at q2
    induction q using EReal.rec with
    | bot => exact absurd q1 (by simp)
    | top => exact absurd q2 (by simp)
    | coe r =>
      rw [EReal.coe_le_coe_iff] at q1
      rw [EReal.coe_lt_coe_iff] at q2
      have hr : 0 < r := lt_of_lt_of_le (by positivity) q1
      have hfl := floor_log r ((n : ℤ) - 127) q1 (by convert q2 using 2; push_cast; ring)
      have hl : Real.log 2 ≠ 0 := (Real.log_pos (by norm_num)).ne'
      have hsel : ∀ (a b : EReal), Scalar.select (IntOp.ori (Ideal.cmp .olt (r : EReal) (thr 1))
          (Ideal.cmp .oge (r : EReal) (thr 253))) a b = b := by
        intro a b
        unfold Scalar.select Ideal.cmp IntOp.ori
        simp [c1, c2]
      rw [hsel, two_f32, one_f32]
      have e1 : Ideal.log ((r : ℝ) : EReal) = ((Real.log r : ℝ) : EReal) := by
        show (if r ≤ 0 then (⊥ : EReal) else _) = _
        rw [if_neg (not_le.mpr hr)]
      have e2 : Ideal.log ((2 : ℝ) : EReal) = ((Real.log 2 : ℝ) : EReal) := by
        show (if (2 : ℝ) ≤ 0 then (⊥ : EReal) else _) = _
        rw [if_neg (by norm_num)]
      have e3 : Ideal.div ((Real.log r : ℝ) : EReal) ((Real.log 2 : ℝ) : EReal)
          = ((Real.log r * (Real.log 2)⁻¹ : ℝ) : EReal) := by
        unfold Ideal.div
        rw [if_neg (by exact_mod_cast hl), ← EReal.coe_inv, ← EReal.coe_mul]
      rw [e1, e2, e3]
      show (((⌊Real.log r * (Real.log 2)⁻¹⌋ : ℤ) : ℝ) : EReal) + ((1 : ℝ) : EReal) = _
      rw [hfl, ← EReal.coe_add]
      congr 1
      push_cast; ring
  · rw [if_neg hm]
    have hsel : ∀ (a b : EReal), Scalar.select (IntOp.ori (Ideal.cmp .olt q (thr 1))
        (Ideal.cmp .oge q (thr 253))) a b = a := by
      intro a b
      have : q < thr 1 ∨ thr 253 ≤ q := by
        by_cases h0 : n = 0
        · left; subst h0; rcases hhi with h | h; exacts [by omega, h]
        · right
          rcases hlo with h | h
          · exact absurd h h0
          · by_cases h255 : n = 255
            · subst h255
              have : thr 255 = ⊤ := by rw [thr_field 255 (by norm_num), if_pos rfl]
              rw [this] at h
              exact le_top.trans h
            · exact (thr_mono (by norm_num) (by omega) (by omega)).trans h
      unfold Scalar.select Ideal.cmp IntOp.ori
      refine if_pos ?_
      rcases this with h | h
      · simp only [h, decide_true]; generalize decide (thr 253 ≤ q) = c; revert c; decide
      · simp only [h, decide_true]; generalize decide (q < thr 1) = c; revert c; decide
    rw [hsel, zero_f32]; norm_num

/-- A power of two of the reference: `exp2` of a whole number. -/
theorem exp2_int (k : ℤ) : Ideal.exp2 (((k : ℤ) : ℝ) : EReal) = (((2 : ℝ) ^ k : ℝ) : EReal) := by
  show ((Real.rpow 2 ((k : ℤ) : ℝ) : ℝ) : EReal) = _
  congr 1
  exact Real.rpow_intCast 2 k

/-- The kernel's scale is the reference's `2^e`. -/
theorem kScale_eq (q : EReal) : kScale q = Ideal.exp2 (rExp q) := by
  obtain ⟨n, hb, hn, hlo, hhi⟩ := kField_found q
  rw [rExp_eq q n (by omega) hlo hhi, exp2_int]
  unfold kScale
  rw [hb, scale_word n (by omega)]
  change thr _ = _
  by_cases hm : 1 ≤ n ∧ n ≤ 252
  · rw [if_pos hm, if_pos hm, thr_eq _ (by omega) (by omega)]
    congr 2; push_cast; ring
  · rw [if_neg hm, if_neg hm, thr_eq _ (by omega) (by omega)]
    norm_num

/-- The kernel's inverse scale is the reference's `2^(-e)`. -/
theorem kInv_eq (q : EReal) : kInv q = Ideal.exp2 (Ideal.ofBits .f32 0x00000000#32 - rExp q) := by
  obtain ⟨n, hb, hn, hlo, hhi⟩ := kField_found q
  rw [rExp_eq q n (by omega) hlo hhi, zero_f32, ← EReal.coe_sub]
  have : (0 : ℝ) - (((if 1 ≤ n ∧ n ≤ 252 then (n : ℤ) - 126 else 0 : ℤ)) : ℝ)
      = ((-(if 1 ≤ n ∧ n ≤ 252 then (n : ℤ) - 126 else 0) : ℤ) : ℝ) := by push_cast; ring
  rw [this, exp2_int]
  unfold kInv
  rw [hb, inv_word n (by omega)]
  change thr _ = _
  by_cases hm : 1 ≤ n ∧ n ≤ 252
  · rw [if_pos hm, if_pos hm, thr_eq _ (by omega) (by omega)]
    congr 2
    have : ((253 - n : ℕ) : ℤ) = 253 - (n : ℤ) := by omega
    rw [this]; ring
  · rw [if_neg hm, if_neg hm, thr_eq _ (by omega) (by omega)]
    norm_num

end Cert.Requant

end
-- ==== Proof.RowMax.lean ====
/-
  THE LARGEST ABSOLUTE VALUE OF A ROW. The kernel keeps, for each of 128 lanes, a running maximum over the 36 column tiles
  of the row, and then takes the maximum over the lanes; the reference takes the maximum over all 4608 columns at once.
  `chain` is the running maximum, `fold_chain` says that the two ways agree.
-/
module

public import Idealize.ShloMosaic.Lib.Pointwise

@[expose] public section

noncomputable section

namespace Cert.Requant

open Idealize.ShloMosaic

/-- The absolute value, as both programs take it. -/
abbrev absE (x : EReal) : EReal := max x (-x)

/-- The running maximum of `|f 0|, …, |f n|`, newest last. -/
def chain (f : ℕ → EReal) : ℕ → EReal
  | 0 => absE (f 0)
  | n + 1 => max (chain f n) (absE (f (n + 1)))

/-- A bound of the running maximum is a bound of each entry. -/
theorem chain_le (f : ℕ → EReal) (n : ℕ) (B : EReal) : chain f n ≤ B ↔ ∀ k ≤ n, absE (f k) ≤ B := by
  induction n with
  | zero => simp [chain]
  | succ n ih =>
    rw [chain, max_le_iff, ih]
    constructor
    · rintro ⟨h, h'⟩ k hk
      rcases Nat.lt_or_ge n k with h1 | h1
      · obtain rfl : k = n + 1 := by omega
        exact h'
      · exact h k h1
    · exact fun h => ⟨fun k hk => h k (by omega), h _ le_rfl⟩

/-- Row maximum times `1/448` (as rounded to f32), from the maximum's start value `-∞` on. -/
def qOf {n : ℕ} (A : Fin n → EReal) : EReal :=
  Finset.univ.fold max (Ideal.ofBits .f32 0xFF800000#32) A * Ideal.ofBits .f32 0x3B124925#32

/-- The maximum over the lanes of the running maxima over the tiles is the maximum over the columns. -/
theorem fold_chain (b : EReal) (g : ℕ → EReal) :
    Finset.univ.fold max b (fun l : Fin 128 => chain (fun k => g (128 * k + l)) 35)
      = Finset.univ.fold max b (fun c : Fin 4608 => absE (g c)) := by
  refine eq_of_forall_ge_iff fun B => ?_
  rw [Finset.fold_max_le, Finset.fold_max_le]
  refine and_congr_right fun _ => ?_
  constructor
  · intro h c _
    have hc := c.isLt
    have h1 := (chain_le _ _ _).mp (h ⟨c.val % 128, Nat.mod_lt _ (by decide)⟩ (Finset.mem_univ _)) (c.val / 128) (by omega)
    have h2 : 128 * (c.val / 128) + c.val % 128 = c.val := Nat.div_add_mod _ _
    simpa only [h2] using h1
  · intro h l _
    refine (chain_le _ _ _).mpr fun k hk => ?_
    exact h ⟨128 * k + l.val, by have := l.isLt; omega⟩ (Finset.mem_univ _)

/-- The same, times `1/448`. -/
theorem qOf_chain (g : ℕ → EReal) :
    qOf (fun l : Fin 128 => chain (fun k => g (128 * k + l)) 35) = qOf (fun c : Fin 4608 => absE (g c)) := by
  unfold qOf
  rw [fold_chain]

end Cert.Requant

end
-- ==== Proof.Spec.lean ====
/-
  What the two results are, in terms of the arguments: the value of a row and column, the row's `q`, and the
  code of a value.
-/
module

public import proofs.«01_k».proof.Proof.RowMax
public import proofs.«01_k».proof.Proof.Exponent
public import Idealize.ShloMosaic.Lib.Pointwise

@[expose] public section

noncomputable section

namespace Cert.Requant

open Idealize.ShloMosaic

/-- The value of row `r` (of the 6 · 4096 rows) and column `q`: the row of `X` times the column of `W`, scaled by the row's
and the column's scale, plus the bias. Outside the array: 0. -/
def yG (A0 : Fin 6 → Fin 4096 → Fin 2048 → EReal) (A1 : Fin 6 → Fin 4096 → EReal) (A2 : Fin 2048 → Fin 4608 → EReal)
    (A3 : Fin 4608 → EReal) (A4 : Fin 6 → Fin 4096 → Fin 4608 → EReal) (r q : ℕ) : EReal :=
  if h : r < 24576 ∧ q < 4608 then
    (∑ k : Fin 2048, A0 ⟨r / 4096, by omega⟩ ⟨r % 4096, by omega⟩ k * A2 k ⟨q, h.2⟩)
      * A1 ⟨r / 4096, by omega⟩ ⟨r % 4096, by omega⟩ * A3 ⟨q, h.2⟩ + A4 ⟨r / 4096, by omega⟩ ⟨r % 4096, by omega⟩ ⟨q, h.2⟩
  else 0

/-- The row's `q`: the largest magnitude of the row, times the f32 nearest to 1/448. -/
def qG (Y : ℕ → ℕ → EReal) (r : ℕ) : EReal := qOf fun c : Fin 4608 => absE (Y r c)

/-- The value of a code: the value times `2^(-e)`, clipped to ±448. -/
def codeOf (y inv : EReal) : EReal := min (Ideal.ofBits .f32 0x43E00000#32) (max (Ideal.ofBits .f32 0xC3E00000#32) (y * inv))

end Cert.Requant

end
-- ==== Proof.Payload.lean ====
/-
  WHAT THE KERNEL COMPUTES FROM ONE BLOCK OF 512 ROWS, read at one element, over the extended reals: the linear layer's
  value of one row and column (`yv`), the row's `q` (`qv`), and the three forms of vector operations that the body is made of
  (a tile of the linear layer, the running maximum's step, the search for the exponent with the powers built from it).
-/
module

public import proofs.«01_k».proof.Proof.Exponent
public import proofs.«01_k».proof.Proof.RowMax
public import proofs.«01_k».proof.Proof.Spec
public import proofs.«01_k».proof.Proof.Gen.KernelIdeal.Skeleton
public import Idealize.ShloMosaic.Lib.Pipeline.ValueKit.Tiles
public import Idealize.ShloMosaic.Lib.Pointwise
public import Idealize.ShloMosaic.PureOps.Ideal

@[expose] public section

noncomputable section

namespace Cert.KernelIdeal.Block

open Cert.Requant Cert.KernelIdeal Cert.KernelIdeal.Gen Idealize.ShloMosaic

/-- The linear layer with its residual at row `p`, column `q` of the block: `(∑ₖ x w) · xs · ws + r`. -/
def yv (x0 : Vec Ideal S512x2048 .fp8e4m3) (x1 : Vec Ideal S1x1x512 .f32) (x2 : Vec Ideal S2048x4608 .fp8e4m3)
    (x3 : Vec Ideal S1x4608 .f32) (x4 : Vec Ideal S512x4608 .bf16) (p q : ℕ) : EReal :=
  if h : p < 512 ∧ q < 4608 then
    (∑ k : Fin 2048, x0 (ix2 ⟨p, h.1⟩ k) * x2 (ix2 k ⟨q, h.2⟩)) * x1 (ix3 0 0 ⟨p, h.1⟩) * x3 (ix2 0 ⟨q, h.2⟩)
      + x4 (ix2 ⟨p, h.1⟩ ⟨q, h.2⟩)
  else 0

/-- The `q` of row `p` of the block, by the kernel's lanes. -/
def qv (x0 : Vec Ideal S512x2048 .fp8e4m3) (x1 : Vec Ideal S1x1x512 .f32) (x2 : Vec Ideal S2048x4608 .fp8e4m3)
    (x3 : Vec Ideal S1x4608 .f32) (x4 : Vec Ideal S512x4608 .bf16) (p : ℕ) : EReal :=
  qOf fun l : Fin 128 => chain (fun k => yv x0 x1 x2 x3 x4 p (128 * k + l)) 35

/-- ONE TILE of 256 rows from `r` and 128 columns from `c = n + o`: columns `o …` of the product with weight columns `n …`,
    scaled and with the residual added, is `yv` at that place. -/
theorem tile_at {x0 : Vec Ideal S512x2048 .fp8e4m3} {x1 : Vec Ideal S1x1x512 .f32} {x2 : Vec Ideal S2048x4608 .fp8e4m3}
    {x3 : Vec Ideal S1x4608 .f32} {x4 : Vec Ideal S512x4608 .bf16} {r r' n o c : ℕ} {i0 i1 i1' i2 i3 i4 ho h1 h2 h3 h4}
    {j : S256x128.Idx} {p q : ℕ} (hp : p = r + (j 0).val) (hq : q = c + (j 1).val)
    (hr : r' = r + 128 := by decide) (hc : c = n + o := by decide) :
    addf (mulf (mulf (extractStridedSlice S256x128 ![0, o]
        (matmul (φ₁ := .fp8e4m3) (φ₂ := .fp8e4m3) dot_S256x2048_S2048x512_S256x512_1_0_0_1_n_n none
          (shapeCast S256x2048 (View.ld x0 (Rect.unit (![r, 0] : Fin 2 → ℕ) S256x2048.size i0)) h1)
          (View.ld x2 (Rect.unit (![0, n] : Fin 2 → ℕ) S2048x512.size i2))
          (constant S256x512 .f32 0x00000000#32)) ho)
        (k0_pay5 (View.ld x1 (Rect.unit (![0, 0, r] : Fin 3 → ℕ) S1x1x128.size i1))
          (View.ld x1 (Rect.unit (![0, 0, r'] : Fin 3 → ℕ) S1x1x128.size i1'))))
        (broadcastTo S256x128 (View.ld x3 (Rect.unit (![0, c] : Fin 2 → ℕ) S1x128.size i3)) h2))
        (extf .f32 (shapeCast S256x128 (View.ld x4 (Rect.unit (![r, c] : Fin 2 → ℕ) S256x128.size i4)) h3 : FVec Ideal S256x128 .bf16) h4) j
      = yv x0 x1 x2 x3 x4 p q := by
  subst hr hc hp hq
  have hj0 : (j 0).val < 256 := (j 0).isLt
  have hj1 : (j 1).val < 128 := (j 1).isLt
  have hr : r + 256 ≤ 512 := i4 0
  have hc : n + o + 128 ≤ 4608 := i4 1
  pointwise [k0_pay5]
  unfold yv
  rw [dif_pos (show r + (j 0).val < 512 ∧ n + o + (j 1).val < 4608 from ⟨by omega, by omega⟩)]
  by_cases hj : (j 0).val < 128
  · simp only [hj, dif_pos, Nat.add_assoc]
  · have e : r + (128 + ((j 0).val - 128)) = r + (j 0).val := by omega
    simp only [hj, dif_neg, not_false_eq_true, Nat.add_assoc, e]

/-- The running maximum's first entry. -/
theorem chain_first {b : FVec Ideal S256x128 .f32} {j : S256x128.Idx} {f : ℕ → EReal} (h : b j = f 0) :
    absf b j = chain f 0 := by
  show absE (b j) = _
  rw [h]; rfl

/-- The running maximum's step. -/
theorem chain_step {a b : FVec Ideal S256x128 .f32} {j : S256x128.Idx} {f : ℕ → EReal} {n : ℕ} (ha : a j = chain f n)
    (hb : b j = f (n + 1)) : maximumf a (absf b) j = chain f (n + 1) := by
  show max (a j) (absE (b j)) = _
  rw [ha, hb]; rfl

/-- One step of the search, on a vector. -/
def vStep (q : FVec Ideal S256x128 .f32) (b : IVec S256x128 32) (s : BitVec 32) : IVec S256x128 32 :=
  select (cmpf .oge q (bitcastToFloat .f32 (shli (w := 32) (addi (w := 32) b (broadcast S256x128 s)) (broadcast S256x128 23#32))))
    (addi b (broadcast S256x128 s)) b

theorem vStep_at (q : FVec Ideal S256x128 .f32) (b : IVec S256x128 32) (s : BitVec 32) (j : S256x128.Idx) :
    vStep q b s j = kStep (q j) (b j) s := rfl

/-- The eight steps, on a vector. -/
def vField (q : FVec Ideal S256x128 .f32) : IVec S256x128 32 :=
  vStep q (vStep q (vStep q (vStep q (vStep q (vStep q (vStep q (vStep q (broadcast S256x128 0#32) 128#32) 64#32) 32#32)
    16#32) 8#32) 4#32) 2#32) 1#32

theorem vField_at (q : FVec Ideal S256x128 .f32) (j : S256x128.Idx) : vField q j = kField (q j) := by
  simp only [vField, vStep_at, kField]
  rfl

theorem fold_vStep (q : FVec Ideal S256x128 .f32) (b : IVec S256x128 32) (s : BitVec 32) :
    select (cmpf .oge q (bitcastToFloat .f32 (shli (w := 32) (addi (w := 32) b (broadcast S256x128 s)) (broadcast S256x128 23#32))))
      (addi b (broadcast S256x128 s)) b = vStep q b s := rfl

theorem fold_vField (q : FVec Ideal S256x128 .f32) :
  vStep q (vStep q (vStep q (vStep q (vStep q (vStep q (vStep q (vStep q (broadcast S256x128 0#32) 128#32) 64#32) 32#32)
    16#32) 8#32) 4#32) 2#32) 1#32 = vField q := rfl

/-- THE SEARCH for the exponent in the first half's rows, and `2^(-e)` from it, element by element. -/
theorem inv_tail0 (q : FVec Ideal S256x128 .f32) (d : IVec S256x128 1)
    (hd : d = cmpf .oge q (bitcastToFloat .f32 (shli (w := 32) (addi (w := 32) k0_pay111 (broadcast S256x128 128#32))
      (broadcast S256x128 23#32)))) :
    k0_pay116 q (k0_pay113 q k0_pay111 d) (k0_pay114 q k0_pay111 d) = fun j => kInv (q j) := by
  simp only [hd, k0_pay116, k0_pay115, k0_pay114, k0_pay113, k0_pay111, fold_vStep, fold_vField]
  funext j
  rw [kInv, ← vField_at]
  rfl

/-- The same search, and `2^e` from it. -/
theorem scale_tail0 (q : FVec Ideal S256x128 .f32) (d : IVec S256x128 1)
    (hd : d = cmpf .oge q (bitcastToFloat .f32 (shli (w := 32) (addi (w := 32) k0_pay111 (broadcast S256x128 128#32))
      (broadcast S256x128 23#32)))) :
    k0_pay118 (F := Ideal) (k0_pay117 q (k0_pay113 q k0_pay111 d) (k0_pay114 q k0_pay111 d)) = fun j => kScale (q j) := by
  simp only [hd, k0_pay118, k0_pay117, k0_pay115, k0_pay114, k0_pay113, k0_pay111, fold_vStep, fold_vField]
  funext j
  rw [kScale, ← vField_at]
  rfl

/-- The search in the second half's rows, and `2^(-e)` from it. -/
theorem inv_tail1 (a b : FVec Ideal S256x128 .f32) :
    k0_pay277 (F := Ideal) (k0_pay274 (k0_pay271 a b) (k0_pay272 a b) (k0_pay273 a b) 16#32)
        (k0_pay275 (k0_pay271 a b) (k0_pay272 a b) (k0_pay273 a b) 16#32) = fun j => kInv (k0_pay271 a b j) := by
  simp only [k0_pay277, k0_pay276, k0_pay275, k0_pay274, k0_pay273, k0_pay272, fold_vStep, fold_vField]
  generalize k0_pay271 a b = q
  funext j
  rw [kInv, ← vField_at]
  rfl

/-- The search in the second half's rows, and `2^e` from it. -/
theorem scale_tail1 (a b : FVec Ideal S256x128 .f32) :
    k0_pay278 (F := Ideal) (k0_pay274 (k0_pay271 a b) (k0_pay272 a b) (k0_pay273 a b) 16#32)
        (k0_pay275 (k0_pay271 a b) (k0_pay272 a b) (k0_pay273 a b) 16#32) = fun j => kScale (k0_pay271 a b j) := by
  simp only [k0_pay278, k0_pay276, k0_pay275, k0_pay274, k0_pay273, k0_pay272, fold_vStep, fold_vField]
  generalize k0_pay271 a b = q
  funext j
  rw [kScale, ← vField_at]
  rfl

/-- `q` of the first half's rows from the running maxima of the lanes. -/
theorem q_at0 (a b c d e f g) (A : FVec Ideal S256x128 .f32)
    (hA : A = maximumf (maximumf c (absf (k0_pay106 a b d e))) (absf (k0_pay108 a b f g))) (j : S256x128.Idx) :
    k0_pay110 (F := Ideal) a b c d e f g j = qOf fun l : Fin 128 => A (ix2 (j 0) l) := by
  unfold k0_pay110
  simp only [← hA]
  pointwise
  rfl

/-- `q` of the second half's rows from the running maxima of the lanes. -/
theorem q_at1 (a b) (A : FVec Ideal S256x128 .f32) (hA : A = maximumf a (absf b)) (j : S256x128.Idx) :
    k0_pay271 (F := Ideal) a b j = qOf fun l : Fin 128 => A (ix2 (j 0) l) := by
  unfold k0_pay271
  simp only [← hA]
  pointwise
  rfl

/-- THE FIRST HALF'S `2^(-e)`, from what the running maxima hold: chunk `k`'s lane `l`
holds the value of row `r + p` and column `128 k + l`, where `r` is the half's first row. -/
theorem inv_fold0 {a b c d e f g} (x0 : Vec Ideal S512x2048 .fp8e4m3) (x1 : Vec Ideal S1x1x512 .f32)
    (x2 : Vec Ideal S2048x4608 .fp8e4m3) (x3 : Vec Ideal S1x4608 .f32) (x4 : Vec Ideal S512x4608 .bf16) (r : ℕ)
    (h : ∀ j, maximumf (maximumf c (absf (k0_pay106 (F := Ideal) a b d e))) (absf (k0_pay108 a b f g)) j
      = chain (fun k => yv x0 x1 x2 x3 x4 (r + (j 0).val) (128 * k + (j 1).val)) 35) :
    k0_pay116 (F := Ideal) (k0_pay110 a b c d e f g)
        (k0_pay113 (k0_pay110 a b c d e f g) k0_pay111 (k0_pay112 a b c d e f g))
        (k0_pay114 (k0_pay110 a b c d e f g) k0_pay111 (k0_pay112 a b c d e f g))
      = fun j => kInv (qv x0 x1 x2 x3 x4 (r + (j 0).val)) := by
  refine (inv_tail0 (k0_pay110 a b c d e f g) (k0_pay112 a b c d e f g) rfl).trans (funext fun j => ?_)
  rw [q_at0 a b c d e f g _ rfl]
  simp only [h]
  rfl

/-- The first half's `2^e`, likewise. -/
theorem scale_fold0 {a b c d e f g} (x0 : Vec Ideal S512x2048 .fp8e4m3) (x1 : Vec Ideal S1x1x512 .f32)
    (x2 : Vec Ideal S2048x4608 .fp8e4m3) (x3 : Vec Ideal S1x4608 .f32) (x4 : Vec Ideal S512x4608 .bf16) (r : ℕ)
    (h : ∀ j, maximumf (maximumf c (absf (k0_pay106 (F := Ideal) a b d e))) (absf (k0_pay108 a b f g)) j
      = chain (fun k => yv x0 x1 x2 x3 x4 (r + (j 0).val) (128 * k + (j 1).val)) 35) :
    k0_pay118 (F := Ideal) (k0_pay117 (k0_pay110 a b c d e f g)
        (k0_pay113 (k0_pay110 a b c d e f g) k0_pay111 (k0_pay112 a b c d e f g))
        (k0_pay114 (k0_pay110 a b c d e f g) k0_pay111 (k0_pay112 a b c d e f g)))
      = fun j => kScale (qv x0 x1 x2 x3 x4 (r + (j 0).val)) := by
  refine (scale_tail0 (k0_pay110 a b c d e f g) (k0_pay112 a b c d e f g) rfl).trans (funext fun j => ?_)
  rw [q_at0 a b c d e f g _ rfl]
  simp only [h]
  rfl

/-- The second half's `2^(-e)`. -/
theorem inv_fold1 {a b} (x0 : Vec Ideal S512x2048 .fp8e4m3) (x1 : Vec Ideal S1x1x512 .f32)
    (x2 : Vec Ideal S2048x4608 .fp8e4m3) (x3 : Vec Ideal S1x4608 .f32) (x4 : Vec Ideal S512x4608 .bf16) (r : ℕ)
    (h : ∀ j, maximumf (F := Ideal) (φ := .f32) a (absf b) j = chain (fun k => yv x0 x1 x2 x3 x4 (r + (j 0).val) (128 * k + (j 1).val)) 35) :
    k0_pay277 (F := Ideal) (k0_pay274 (k0_pay271 a b) (k0_pay272 a b) (k0_pay273 a b) 16#32)
        (k0_pay275 (k0_pay271 a b) (k0_pay272 a b) (k0_pay273 a b) 16#32)
      = fun j => kInv (qv x0 x1 x2 x3 x4 (r + (j 0).val)) := by
  rw [inv_tail1]
  funext j
  rw [q_at1 a b _ rfl]
  simp only [h]
  rfl

/-- The second half's `2^e`. -/
theorem scale_fold1 {a b} (x0 : Vec Ideal S512x2048 .fp8e4m3) (x1 : Vec Ideal S1x1x512 .f32)
    (x2 : Vec Ideal S2048x4608 .fp8e4m3) (x3 : Vec Ideal S1x4608 .f32) (x4 : Vec Ideal S512x4608 .bf16) (r : ℕ)
    (h : ∀ j, maximumf (F := Ideal) (φ := .f32) a (absf b) j = chain (fun k => yv x0 x1 x2 x3 x4 (r + (j 0).val) (128 * k + (j 1).val)) 35) :
    k0_pay278 (F := Ideal) (k0_pay274 (k0_pay271 a b) (k0_pay272 a b) (k0_pay273 a b) 16#32)
        (k0_pay275 (k0_pay271 a b) (k0_pay272 a b) (k0_pay273 a b) 16#32)
      = fun j => kScale (qv x0 x1 x2 x3 x4 (r + (j 0).val)) := by
  refine (scale_tail1 a b).trans (funext fun j => ?_)
  rw [q_at1 a b _ rfl]
  simp only [h]
  rfl

/-- ONE TILE OF CODES: the stored values times the row's `2^(-e)`, clipped to ±448. -/
theorem code_at {y inv : FVec Ideal S256x128 .f32} {j : S256x128.Idx} {Y I : EReal} {h} (hy : y j = Y) (hi : inv j = I) :
    truncf (F := Ideal) .fp8e4m3 (minimumf (broadcast S256x128 (Scalar.ofBits .f32 0x43E00000#32))
        (maximumf (broadcast S256x128 (Scalar.ofBits .f32 0xC3E00000#32)) (mulf y inv))) h j
      = codeOf Y I := by
  unfold codeOf
  pointwise
  rw [hy, hi]

/-- One row of scales: a half's scales from row `o` on, lane 0, laid along the lanes. -/
theorem scaleRow_at {s : FVec Ideal S256x128 .f32} {o : ℕ} {ho ht hs hc} {x : S1x1x128.Idx} {v : EReal}
    (h : ∀ j : S256x128.Idx, (j 0).val = o + (x 2).val → s j = v) :
    shapeCast S1x1x128 (extractStridedSlice S1x128 ![0, 0] (transpose S128x128 [1, 0]
      (extractStridedSlice S128x128 ![o, 0] s ho) ht) hs) hc x = v := by
  pointwise
  exact h _ rfl

end Cert.KernelIdeal.Block

end
-- ==== Proof.KernelScale.lean ====
/-
  THE SCALES OF ONE BLOCK: what the kernel leaves in the scale block of 512 rows is, row by row, `2^e` of the row's `q`.
-/
module

public import proofs.«01_k».proof.Proof.Payload
public import proofs.«01_k».proof.Proof.Gen.KernelIdeal.Frame
public import Idealize.ShloMosaic.Lib.Pipeline.ReadBack

@[expose] public section

set_option maxRecDepth 16384
set_option maxHeartbeats 1000000

noncomputable section

namespace Cert.KernelIdeal.Block

open Cert.Requant Cert.KernelIdeal Cert.KernelIdeal.Gen Idealize.ShloMosaic Idealize.ShloMosaic.TcCoe Idealize.SL.Sem

/-- THE SCALE BLOCK, entry by entry. -/
theorem scale_block (c : Dev nD) (i : grid0.Coords) (arg1 : Memref sig .tc .vmem S512x2048 .fp8e4m3) (harg1 : arg1.IsWhole)
    (arg2 : Memref sig .tc .vmem S1x1x512 .f32) (harg2 : arg2.IsWhole) (arg3 : Memref sig .tc .vmem S2048x4608 .fp8e4m3)
    (harg3 : arg3.IsWhole) (arg4 : Memref sig .tc .vmem S1x4608 .f32) (harg4 : arg4.IsWhole)
    (arg5 : Memref sig .tc .vmem S512x4608 .bf16) (harg5 : arg5.IsWhole) (arg6 : Memref sig .tc .vmem S512x4608 .fp8e4m3)
    (harg6 : arg6.IsWhole) (arg7 : Memref sig .tc .vmem S1x1x512 .f32) (harg7 : arg7.IsWhole)
    (arg8 : Memref sig .tc .vmem S512x4608 .f32) (harg8 : arg8.IsWhole) (x0 : Vec Ideal S512x2048 .fp8e4m3)
    (x1 : Vec Ideal S1x1x512 .f32) (x2 : Vec Ideal S2048x4608 .fp8e4m3) (x3 : Vec Ideal S1x4608 .f32)
    (x4 : Vec Ideal S512x4608 .bf16)
    (y : S1x1x512.Idx) :
    out0_A_6 (F := Ideal) c i arg1 harg1 arg2 harg2 arg3 harg3 arg4 harg4 arg5 harg5 arg6 harg6 arg7 harg7 arg8 harg8 x0 x1 x2 x3 x4 y = kScale (qv x0 x1 x2 x3 x4 (y 2).val) := by
  frame_open
  simp (disch := decide) only [View.read_writes_junk_eq_canon, View.readAt_eq_ld, Memref.IsWhole.read_unread]
  unfold k0_pay119 k0_pay120 k0_pay279 k0_pay280
  rw [scale_fold0 x0 x1 x2 x3 x4 0, scale_fold1 x0 x1 x2 x3 x4 256]
  rotate_left
  · intro j
    open_payloads
    iterate 35 refine chain_step ?_ ?_
    refine chain_first ?_
    all_goals exact tile_at rfl (by omega)
  · intro j
    open_payloads
    iterate 35 refine chain_step ?_ ?_
    refine chain_first ?_
    all_goals exact tile_at rfl (by omega)
  canon_tiles x h
  all_goals exact scaleRow_at fun j hj => congrArg (fun n => kScale (qv x0 x1 x2 x3 x4 n)) (by omega)

end Cert.KernelIdeal.Block

end
-- ==== Proof.KernelCode.lean ====
/-
  THE CODES OF ONE BLOCK: what the kernel leaves in the code block of 512 rows and 4608 columns is, entry by entry, the
  value of the row and column times the row's `2^(-e)`, clipped to ±448.
-/
module

public import proofs.«01_k».proof.Proof.Payload
public import proofs.«01_k».proof.Proof.Gen.KernelIdeal.Frame
public import Idealize.ShloMosaic.Lib.Pipeline.ReadBack

@[expose] public section

set_option maxRecDepth 16384
set_option maxHeartbeats 2000000

noncomputable section

namespace Cert.KernelIdeal.Block

open Cert.Requant Cert.KernelIdeal Cert.KernelIdeal.Gen Idealize.ShloMosaic Idealize.ShloMosaic.TcCoe Idealize.SL.Sem

/-- THE CODE BLOCK, entry by entry. -/
theorem code_block (c : Dev nD) (i : grid0.Coords) (arg1 : Memref sig .tc .vmem S512x2048 .fp8e4m3) (harg1 : arg1.IsWhole)
    (arg2 : Memref sig .tc .vmem S1x1x512 .f32) (harg2 : arg2.IsWhole) (arg3 : Memref sig .tc .vmem S2048x4608 .fp8e4m3)
    (harg3 : arg3.IsWhole) (arg4 : Memref sig .tc .vmem S1x4608 .f32) (harg4 : arg4.IsWhole)
    (arg5 : Memref sig .tc .vmem S512x4608 .bf16) (harg5 : arg5.IsWhole) (arg6 : Memref sig .tc .vmem S512x4608 .fp8e4m3)
    (harg6 : arg6.IsWhole) (arg7 : Memref sig .tc .vmem S1x1x512 .f32) (harg7 : arg7.IsWhole)
    (arg8 : Memref sig .tc .vmem S512x4608 .f32) (harg8 : arg8.IsWhole) (x0 : Vec Ideal S512x2048 .fp8e4m3)
    (x1 : Vec Ideal S1x1x512 .f32) (x2 : Vec Ideal S2048x4608 .fp8e4m3) (x3 : Vec Ideal S1x4608 .f32)
    (x4 : Vec Ideal S512x4608 .bf16)
    (y : S512x4608.Idx) :
    out0_A_5 (F := Ideal) c i arg1 harg1 arg2 harg2 arg3 harg3 arg4 harg4 arg5 harg5 arg6 harg6 arg7 harg7 arg8 harg8 x0 x1 x2 x3 x4 y = codeOf (yv x0 x1 x2 x3 x4 (y 0).val (y 1).val) (kInv (qv x0 x1 x2 x3 x4 (y 0).val)) := by
  frame_open
  simp (disch := decide) only [↓ View.readCov_skip, ↓ View.readCov_cons_toLoadRect, ↓ View.readCov_fill]
  simp (disch := decide) only [View.read_writes_junk_eq_canon, View.readAt_eq_ld, Memref.IsWhole.read_unread]
  unfold k0_pay281
  rw [inv_fold0 x0 x1 x2 x3 x4 0]
  rotate_left
  · intro j
    open_payloads
    iterate 35 refine chain_step ?_ ?_
    refine chain_first ?_
    all_goals exact tile_at rfl (by omega)
  rw [inv_fold1 x0 x1 x2 x3 x4 256]
  rotate_left
  · intro j
    open_payloads
    iterate 35 refine chain_step ?_ ?_
    refine chain_first ?_
    all_goals exact tile_at rfl (by omega)
  canon_tiles x h using (View.cover_of_tiled_head _ _ _ (by rfl) _)
  all_goals
    open_payloads
    refine code_at (Eq.trans (congrFun (shapeCast_self _ _) x) (tile_at (by omega) (by omega))) (congrArg (fun n => kInv (qv x0 x1 x2 x3 x4 n)) (by omega))

end Cert.KernelIdeal.Block

end
-- ==== Proof.KernelRows.lean ====
/-
  THE ROWS: grid point `t` works on rows `512 t, …, 512 t + 511` of the arguments, so its block's values and its rows' `q` are those of the
  arrays.
-/
module

public import proofs.«01_k».proof.Proof.Payload
public import proofs.«01_k».proof.Proof.Spec
public import proofs.«01_k».proof.Proof.Gen.KernelIdeal.Value
public import Idealize.ShloMosaic.Lib.Pipeline.ValueKit
public import Idealize.ShloMosaic.Lib.Pipeline.ValueKit.Point
public import Idealize.ShloMosaic.Lib.Claim

@[expose] public section

noncomputable section

namespace Cert.KernelIdeal.Arrays

open Cert.Requant Cert.KernelIdeal Cert.KernelIdeal.Gen Cert.KernelIdeal.Block Idealize.ShloMosaic Idealize.ShloMosaic.TcCoe Idealize.SL.Sem
open Idealize.ShloMosaic.Pipeline (Dat)

variable (m : (ℓ : Loc nD τ sig) → Buf (Elt Ideal) ℓ)

/-- Which block each window has at grid point `t`. -/
theorem idx : ∀ t : Fin cfg0.N, (t : ℕ) < 48 ∧ win0_0.index t 0 = t ∧ win0_0.index t 1 = 0
    ∧ win0_1.index t 0 = t / 8 ∧ win0_1.index t 1 = 0 ∧ win0_1.index t 2 = t % 8
    ∧ win0_2.index t 0 = 0 ∧ win0_2.index t 1 = 0 ∧ win0_3.index t 0 = 0 ∧ win0_3.index t 1 = 0
    ∧ win0_4.index t 0 = t ∧ win0_4.index t 1 = 0 ∧ win0_5.index t 0 = t ∧ win0_5.index t 1 = 0
    ∧ win0_6.index t 0 = t / 8 ∧ win0_6.index t 1 = 0 ∧ win0_6.index t 2 = t % 8 :=
  (by decide +kernel : ∀ t : Fin grid0.N, _)

/-- `X`'s block holds rows `512 t …` of the rows laid one after another. -/
theorem iblk0_at (c : Dev nD) (t : Fin cfg0.N) (j : S512x2048.Idx) (a : Fin 6) (b : Fin 4096)
    (h : 4096 * a.val + b.val = 512 * t.val + (j 0).val) :
    iblk m c 0 t j = m ((c : Thread nD τ).loc main_arg0) (ix3 a b (j 1)) := by
  blk_simp [iblk, idx t]
  entry_read
  pointwise
  refine congrArg _ ?_
  blk_ext [idx t]

/-- The rows' scales, likewise. -/
theorem iblk1_at (c : Dev nD) (t : Fin cfg0.N) (j : S1x1x512.Idx) (a : Fin 6) (b : Fin 4096)
    (h : 4096 * a.val + b.val = 512 * t.val + (j 2).val) :
    iblk m c 1 t j = m ((c : Thread nD τ).loc main_arg1) (ix3 a b 0) := by
  blk_simp [iblk, idx t]
  entry_read
  pointwise
  refine congrArg _ ?_
  blk_ext [idx t]

/-- `W`'s one block is `W`. -/
theorem iblk2_at (c : Dev nD) (t : Fin cfg0.N) (j : S2048x4608.Idx) :
    iblk m c 2 t j = m ((c : Thread nD τ).loc main_arg2) j := by
  blk_simp [iblk, idx t]
  entry_read
  refine congrArg _ ?_
  blk_ext [idx t]

/-- The columns' scales in one block. -/
theorem iblk3_at (c : Dev nD) (t : Fin cfg0.N) (j : S1x4608.Idx) :
    iblk m c 3 t j = m ((c : Thread nD τ).loc main_arg3) j := by
  blk_simp [iblk, idx t]
  entry_read
  refine congrArg _ ?_
  blk_ext [idx t]

/-- The bias block: rows `512 t …`. -/
theorem iblk4_at (c : Dev nD) (t : Fin cfg0.N) (j : S512x4608.Idx) (a : Fin 6) (b : Fin 4096)
    (h : 4096 * a.val + b.val = 512 * t.val + (j 0).val) :
    iblk m c 4 t j = m ((c : Thread nD τ).loc main_arg4) (ix3 a b (j 1)) := by
  blk_simp [iblk, idx t]
  entry_read
  pointwise
  refine congrArg _ ?_
  blk_ext [idx t]

/-- The value of row `r`, column `q`, of the kernel's arguments. -/
def yM (c : Dev nD) : ℕ → ℕ → EReal :=
  yG (fun a b k => m ((c : Thread nD τ).loc main_arg0) (ix3 a b k)) (fun a b => m ((c : Thread nD τ).loc main_arg1) (ix3 a b 0))
    (fun k q => m ((c : Thread nD τ).loc main_arg2) (ix2 k q)) (fun q => m ((c : Thread nD τ).loc main_arg3) (ix2 0 q))
    (fun a b q => m ((c : Thread nD τ).loc main_arg4) (ix3 a b q))

/-- The block's values are the array's: local row `p` of point `t` is row `512 t + p`. -/
theorem yv_eq (c : Dev nD) (t : Fin cfg0.N) (p q : ℕ) (hp : p < 512) :
    yv (iblk m c 0 t) (iblk m c 1 t) (iblk m c 2 t) (iblk m c 3 t) (iblk m c 4 t) p q = yM m c (512 * t.val + p) q := by
  have ht := (idx t).1
  unfold yv yM yG
  by_cases hq : q < 4608
  · rw [dif_pos ⟨hp, hq⟩, dif_pos ⟨by omega, hq⟩]
    have e : 4096 * ((512 * t.val + p) / 4096) + (512 * t.val + p) % 4096 = 512 * t.val + p := Nat.div_add_mod _ _
    rw [iblk1_at m c t _ ⟨(512 * t.val + p) / 4096, by omega⟩ ⟨(512 * t.val + p) % 4096, by omega⟩ e, iblk3_at,
      iblk4_at m c t _ ⟨(512 * t.val + p) / 4096, by omega⟩ ⟨(512 * t.val + p) % 4096, by omega⟩ e]
    have e0 : ∀ k : Fin 2048, iblk m c 0 t (ix2 ⟨p, hp⟩ k) = m ((c : Thread nD τ).loc main_arg0)
        (ix3 (⟨(512 * t.val + p) / 4096, by omega⟩ : Fin 6) (⟨(512 * t.val + p) % 4096, by omega⟩ : Fin 4096) k) := fun k =>
      iblk0_at m c t (ix2 ⟨p, hp⟩ k) _ _ e
    rw [Finset.sum_congr rfl fun k _ => congrArg₂ (fun (a b : EReal) => a * b) (e0 k)
      (iblk2_at m c t (ix2 k ⟨q, hq⟩))]
    rfl
  · rw [dif_neg (by omega), dif_neg (by omega)]

/-- So are its rows' `q`. -/
theorem qv_eq (c : Dev nD) (t : Fin cfg0.N) (p : ℕ) (hp : p < 512) :
    qv (iblk m c 0 t) (iblk m c 1 t) (iblk m c 2 t) (iblk m c 3 t) (iblk m c 4 t) p = qG (yM m c) (512 * t.val + p) := by
  unfold qv qG
  rw [← qOf_chain]
  simp only [yv_eq m c t p _ hp]

end Cert.KernelIdeal.Arrays

end
-- ==== Proof.KernelArrays.lean ====
/-
  THE RESULT ARRAYS of the kernel: every code and every scale, as a function of the arguments.
-/
module

public import proofs.«01_k».proof.Proof.KernelScale
public import proofs.«01_k».proof.Proof.KernelCode
public import proofs.«01_k».proof.Proof.KernelRows
public import proofs.«01_k».proof.Proof.Gen.KernelIdeal.Value
public import Idealize.ShloMosaic.Lib.Pipeline.ValueKit
public import Idealize.ShloMosaic.Lib.Pipeline.ValueKit.Point
public import Idealize.ShloMosaic.Lib.Claim

@[expose] public section

set_option maxHeartbeats 1000000

noncomputable section

namespace Cert.KernelIdeal.Arrays

open Cert.Requant Cert.KernelIdeal Cert.KernelIdeal.Gen Cert.KernelIdeal.Block Idealize.ShloMosaic Idealize.ShloMosaic.TcCoe Idealize.SL.Sem
open Idealize.ShloMosaic.Pipeline (Dat)

variable (m : (ℓ : Loc nD τ sig) → Buf (Elt Ideal) ℓ)

/-- The codes as an array of the arguments. -/
def codes (c : Dev nD) : S24576x4608.Idx → EReal := fun i =>
  codeOf (yM m c (i 0).val (i 1).val) (kInv (qG (yM m c) (i 0).val))

/-- The scales as an array of the arguments. -/
def scales (c : Dev nD) : S6x1x4096.Idx → EReal := fun i => kScale (qG (yM m c) (4096 * (i 0).val + (i 2).val))

/-- THE CODES the kernel leaves. -/
theorem codes_arr (c : Dev nD) : (dats m 0 c).arrAt 5 cfg0.N = codes m c := by
  refine (dats m 0 c).arrAt_eq_of_covers 5 _ (by decide +kernel) fun t _ y => ?_
  blk_simp
  rw [after0_5]
  unfold outsAt0
  refine (code_block c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) scM0_0 (Memref.isWhole_whole _) (iblk m c 0 t) (iblk m c 1 t)
    (iblk m c 2 t) (iblk m c 3 t) (iblk m c 4 t) y).trans ?_
  idx_bounds y
  rw [yv_eq _ _ _ _ _ (by omega), qv_eq _ _ _ _ (by omega)]
  unfold codes
  blk_simp [idx t]
  rw [Nat.mul_comm t.val 512]

/-- THE SCALES the kernel leaves. -/
theorem scales_arr (c : Dev nD) : (dats m 0 c).arrAt 6 cfg0.N = scales m c := by
  refine (dats m 0 c).arrAt_eq_of_covers 6 _ (by decide +kernel) fun t _ y => ?_
  blk_simp
  rw [after0_6]
  unfold outsAt0
  refine (scale_block c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) scM0_0 (Memref.isWhole_whole _) (iblk m c 0 t) (iblk m c 1 t)
    (iblk m c 2 t) (iblk m c 3 t) (iblk m c 4 t) y).trans ?_
  idx_bounds y
  rw [qv_eq _ _ _ _ (by omega)]
  unfold scales
  blk_simp [idx t]
  exact congrArg (fun n => kScale (qG (yM m c) n)) (by omega)

end Cert.KernelIdeal.Arrays

end
-- ==== Proof.RefBlocks.lean ====
/-
  What the reference's one pass over whole arrays leaves in memory: its result arrays are named, block by block, by the body's
  results over the whole argument arrays, and the arguments stay as they were. (The blockwise part of the generated value module.)
-/
module

public import proofs.«01_k».proof.Proof.Gen.ReferenceIdeal.Frame
public import Idealize.ShloMosaic.Lib.Pipeline.Value

@[expose] public section

noncomputable section

namespace Cert.ReferenceIdeal.Blocks

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S24576x4608.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S6x1x4096.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_1) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 5 cfg0.N
      ∧ r.2.mem ((c : Thread nD τ).loc main_v3_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

end Cert.ReferenceIdeal.Blocks

end
-- ==== Proof.RefValue.lean ====
/-
  THE RESULT ARRAYS of the reference: every code and every scale, as a function of the arguments.
-/
module

public import proofs.«01_k».proof.Proof.RefBlocks
public import proofs.«01_k».proof.Proof.Spec
public import Idealize.ShloMosaic.Lib.Pipeline.ValueKit
public import Idealize.ShloMosaic.Lib.Pipeline.ValueKit.Point
public import Idealize.ShloMosaic.Lib.Claim
public import Idealize.ShloMosaic.Lib.Pointwise
public import Idealize.ShloMosaic.PureOps.Ideal

@[expose] public section

noncomputable section

namespace Cert.ReferenceIdeal.Arrays

open Cert.Requant Cert.ReferenceIdeal Cert.ReferenceIdeal.Gen Idealize.ShloMosaic Idealize.ShloMosaic.TcCoe Idealize.SL.Sem
open Idealize.ShloMosaic.Pipeline (Dat)

/-- The value of a row and column. -/
theorem value_at (a : Vec Ideal S24576x2048 .fp8e4m3) (b : Vec Ideal S2048x4608 .fp8e4m3) (c : Vec Ideal S24576x1 .f32)
    (d : Vec Ideal S1x4608 .f32) (e : Vec Ideal S24576x4608 .bf16) (j : S24576x4608.Idx) :
    k0_pay3 (F := Ideal) a b c d e j
      = (∑ k : Fin 2048, a (ix2 (j 0) k) * b (ix2 k (j 1))) * c (ix2 (j 0) 0) * d (ix2 0 (j 1)) + e j := by
  unfold k0_pay3
  pointwise

/-- The exponent of a vector of `q`s, entry by entry. -/
theorem exponent_at (v : FVec Ideal S24576x1 .f32) (j : S24576x1.Idx) :
    select (ori (cmpf .olt v (broadcast S24576x1 (Scalar.ofBits .f32 0x00800000#32)))
        (cmpf .oge v (broadcast S24576x1 (Scalar.ofBits .f32 0x7E800000#32))))
      (broadcast S24576x1 (Scalar.ofBits .f32 0x00000000#32))
      (addf (floor (divf (log v) (log (broadcast S24576x1 (Scalar.ofBits .f32 0x40000000#32)))))
        (broadcast S24576x1 (Scalar.ofBits .f32 0x3F800000#32))) j = rExp (v j) := rfl

/-- The largest entry of a row. -/
theorem rowMax_at (v : FVec Ideal S24576x4608 .f32) (j : S24576x1.Idx) :
    shapeCast S24576x1 (multiReduction .maximumf [1] S24576 v 0xFF800000#32 reduces_S24576x4608_S24576 (.inl rfl) rfl)
      shapeCasts_S24576_S24576x1 j
      = Finset.univ.fold max (Ideal.ofBits .f32 0xFF800000#32) fun q : Fin 4608 => v (ix2 (j 0) q) := by
  pointwise

/-- A product of two columns, entry by entry. -/
theorem mul_at (u v : FVec Ideal S24576x1 .f32) (j : S24576x1.Idx) : mulf u v j = (u j * v j : EReal) := rfl

/-- The `q` of a row, from the array of values. -/
theorem q_at (y : FVec Ideal S24576x4608 .f32) (j : S24576x1.Idx) :
    mulf (shapeCast S24576x1 (multiReduction .maximumf [1] S24576 (absf y) 0xFF800000#32 reduces_S24576x4608_S24576 (.inl rfl) rfl)
        shapeCasts_S24576_S24576x1) (broadcast S24576x1 (Scalar.ofBits .f32 0x3B124925#32)) j
      = qOf fun q : Fin 4608 => absE (y (ix2 (j 0) q)) := by
  rw [mul_at, rowMax_at]
  unfold qOf
  refine congrArg₂ (fun a b : EReal => a * b) ?_ ?_
  · exact congrArg (fun A : Fin 4608 → EReal => Finset.univ.fold max (Ideal.ofBits .f32 0xFF800000#32) A) (funext fun q => rfl)
  · rfl

/-- The exponent of a row. -/
theorem rowExponent_at (a : Vec Ideal S24576x2048 .fp8e4m3) (b : Vec Ideal S2048x4608 .fp8e4m3) (c : Vec Ideal S24576x1 .f32)
    (d : Vec Ideal S1x4608 .f32) (e : Vec Ideal S24576x4608 .bf16) (j : S24576x1.Idx) :
    k0_pay4 (F := Ideal) a b c d e j = rExp (qOf fun q : Fin 4608 => absE (k0_pay3 a b c d e (ix2 (j 0) q))) := by
  unfold k0_pay4
  exact (exponent_at _ j).trans (congrArg rExp (q_at (k0_pay3 a b c d e) j))

/-- A code, from the array of values and the column of exponents. -/
theorem code_at (y : FVec Ideal S24576x4608 .f32) (e : FVec Ideal S24576x1 .f32) (j : S24576x4608.Idx) :
    k0_pay1 (F := Ideal) (mulf y (broadcastTo S24576x4608 (exp2 (subf (broadcast S24576x1 (Scalar.ofBits .f32 0x00000000#32)) e))
        broadcasts_S24576x1_S24576x4608)) (Scalar.ofBits .f32 0xC3E00000#32) (Scalar.ofBits .f32 0x43E00000#32) j
      = codeOf (y j) (Ideal.exp2 (Ideal.ofBits .f32 0x00000000#32 - e (ix2 (j 0) 0))) := by
  unfold k0_pay1 codeOf
  pointwise
  rfl

/-- A scale, from the column of exponents. -/
theorem scale_at (e : FVec Ideal S24576x1 .f32) (j : S6x1x4096.Idx) (r : Fin 24576) (h : r.val = 4096 * (j 0).val + (j 2).val) :
    k0_pay2 (F := Ideal) e j = Ideal.exp2 (e (ix2 r 0)) := by
  unfold k0_pay2
  pointwise
  exact congrArg (fun r : Fin 24576 => Ideal.exp2 (e (ix2 r 0))) (Fin.ext (by simp only [h]; omega))

/-- The body loads each array whole. -/
theorem ld0 (X : Vec Ideal S24576x2048 .fp8e4m3) : View.ld X r0_0 = X := View.ld_unit_lit' _ X (by decide)
theorem ld1 (X : Vec Ideal S2048x4608 .fp8e4m3) : View.ld X r0_1 = X := View.ld_unit_lit' _ X (by decide)
theorem ld2 (X : Vec Ideal S24576x1 .f32) : View.ld X r0_2 = X := View.ld_unit_lit' _ X (by decide)
theorem ld3 (X : Vec Ideal S1x4608 .f32) : View.ld X r0_3 = X := View.ld_unit_lit' _ X (by decide)
theorem ld4 (X : Vec Ideal S24576x4608 .bf16) : View.ld X r0_4 = X := View.ld_unit_lit' _ X (by decide)

variable (m : (ℓ : Loc nD τ sig) → Buf (Elt Ideal) ℓ)

/-- The one grid point's blocks are the whole arrays. -/
theorem idx : ∀ t : Fin cfg0.N, win0_0.index t 0 = 0 ∧ win0_0.index t 1 = 0
    ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0 ∧ win0_6.index t 2 = 0 :=
  (by decide +kernel : ∀ t : Fin grid0.N, _)

/-- The rows of `X`, one after another. -/
theorem iblk0_at (c : Dev nD) (t : Fin cfg0.N) (j : S24576x2048.Idx) (a : Fin 6) (b : Fin 4096)
    (h : 4096 * a.val + b.val = (j 0).val) :
    iblk m c 0 t j = m ((c : Thread nD τ).loc main_arg0) (ix3 a b (j 1)) := by
  blk_simp [iblk, idx t]
  entry_read
  pointwise
  refine congrArg _ ?_
  blk_ext [idx t]

/-- The rows' scales. -/
theorem iblk1_at (c : Dev nD) (t : Fin cfg0.N) (j : S24576x1.Idx) (a : Fin 6) (b : Fin 4096)
    (h : 4096 * a.val + b.val = (j 0).val) :
    iblk m c 1 t j = m ((c : Thread nD τ).loc main_arg1) (ix3 a b 0) := by
  blk_simp [iblk, idx t]
  entry_read
  pointwise
  refine congrArg _ ?_
  blk_ext [idx t]

/-- `W`. -/
theorem iblk2_at (c : Dev nD) (t : Fin cfg0.N) (j : S2048x4608.Idx) :
    iblk m c 2 t j = m ((c : Thread nD τ).loc main_arg2) j := by
  blk_simp [iblk, idx t]
  entry_read
  refine congrArg _ ?_
  blk_ext [idx t]

/-- The columns' scales. -/
theorem iblk3_at (c : Dev nD) (t : Fin cfg0.N) (j : S1x4608.Idx) :
    iblk m c 3 t j = m ((c : Thread nD τ).loc main_arg3) j := by
  blk_simp [iblk, idx t]
  entry_read
  refine congrArg _ ?_
  blk_ext [idx t]

/-- The bias. -/
theorem iblk4_at (c : Dev nD) (t : Fin cfg0.N) (j : S24576x4608.Idx) (a : Fin 6) (b : Fin 4096)
    (h : 4096 * a.val + b.val = (j 0).val) :
    iblk m c 4 t j = m ((c : Thread nD τ).loc main_arg4) (ix3 a b (j 1)) := by
  blk_simp [iblk, idx t]
  entry_read
  pointwise
  refine congrArg _ ?_
  blk_ext [idx t]

/-- The value of row `r`, column `q`, of the reference's arguments. -/
def yM (c : Dev nD) : ℕ → ℕ → EReal :=
  yG (fun a b k => m ((c : Thread nD τ).loc main_arg0) (ix3 a b k)) (fun a b => m ((c : Thread nD τ).loc main_arg1) (ix3 a b 0))
    (fun k q => m ((c : Thread nD τ).loc main_arg2) (ix2 k q)) (fun q => m ((c : Thread nD τ).loc main_arg3) (ix2 0 q))
    (fun a b q => m ((c : Thread nD τ).loc main_arg4) (ix3 a b q))

/-- The array of values is the values of the rows and columns. -/
theorem y_eq (c : Dev nD) (t : Fin cfg0.N) (r : Fin 24576) (q : Fin 4608) :
    k0_pay3 (F := Ideal) (iblk m c 0 t) (iblk m c 2 t) (iblk m c 1 t) (iblk m c 3 t) (iblk m c 4 t) (ix2 r q) = yM m c r q := by
  have e : 4096 * (r.val / 4096) + r.val % 4096 = r.val := Nat.div_add_mod _ _
  have e0 : ∀ k : Fin 2048, iblk m c 0 t (ix2 r k) = m ((c : Thread nD τ).loc main_arg0)
      (ix3 (⟨r.val / 4096, by omega⟩ : Fin 6) (⟨r.val % 4096, by omega⟩ : Fin 4096) k) := fun k =>
    iblk0_at m c t (ix2 r k) _ _ e
  rw [value_at]
  unfold yM yG
  rw [dif_pos ⟨r.isLt, q.isLt⟩]
  refine congrArg₂ (fun a b : EReal => a + b) (congrArg₂ (fun a b : EReal => a * b) (congrArg₂ (fun a b : EReal => a * b) ?_ ?_) ?_) ?_
  · exact Finset.sum_congr rfl fun k _ => congrArg₂ (fun a b : EReal => a * b) (e0 k) (iblk2_at m c t (ix2 k q))
  · exact iblk1_at m c t _ _ _ e
  · exact iblk3_at m c t _
  · exact iblk4_at m c t (ix2 r q) _ _ e

/-- The exponents are those of the rows' `q`. -/
theorem e_eq (c : Dev nD) (t : Fin cfg0.N) (r : Fin 24576) :
    k0_pay4 (F := Ideal) (iblk m c 0 t) (iblk m c 2 t) (iblk m c 1 t) (iblk m c 3 t) (iblk m c 4 t) (ix2 r 0) = rExp (qG (yM m c) r) := by
  rw [rowExponent_at]
  unfold qG
  refine congrArg rExp (congrArg qOf (funext fun q => congrArg absE (y_eq m c t r q)))

/-- The codes as an array of the arguments. -/
def codes (c : Dev nD) : S24576x4608.Idx → EReal := fun i =>
  codeOf (yM m c (i 0).val (i 1).val) (Ideal.exp2 (Ideal.ofBits .f32 0x00000000#32 - rExp (qG (yM m c) (i 0).val)))

/-- The scales as an array of the arguments. -/
def scales (c : Dev nD) : S6x1x4096.Idx → EReal := fun i => Ideal.exp2 (rExp (qG (yM m c) (4096 * (i 0).val + (i 2).val)))

/-- THE CODES the reference leaves. -/
theorem codes_arr (c : Dev nD) : (dats m 0 c).arrAt 5 cfg0.N = codes m c := by
  refine (dats m 0 c).arrAt_eq_of_covers 5 _ (by decide +kernel) fun t _ y => ?_
  blk_simp
  rw [after0_5]
  unfold out0_5
  canon_tiles x h
  rw [ld0, ld1, ld2, ld3, ld4]
  refine (code_at _ _ x).trans ?_
  rw [e_eq m c t (x 0)]
  unfold codes
  blk_simp [idx t]
  rw [h0, h1]
  exact congrArg (fun z : EReal => codeOf z _) ((congrArg (k0_pay3 (F := Ideal) (iblk m c 0 t) (iblk m c 2 t)
    (iblk m c 1 t) (iblk m c 3 t) (iblk m c 4 t)) (ix2_eta x).symm).trans (y_eq m c t (x 0) (x 1)))

/-- THE SCALES the reference leaves. -/
theorem scales_arr (c : Dev nD) : (dats m 0 c).arrAt 6 cfg0.N = scales m c := by
  refine (dats m 0 c).arrAt_eq_of_covers 6 _ (by decide +kernel) fun t _ y => ?_
  blk_simp
  rw [after0_6]
  unfold out0_6
  canon_tiles x h
  rw [ld0, ld1, ld2, ld3, ld4]
  refine (scale_at _ x ⟨4096 * (x 0).val + (x 2).val, by omega⟩ rfl).trans ?_
  rw [e_eq]
  unfold scales
  blk_simp [idx t]
  rw [h0, h2]

end Cert.ReferenceIdeal.Arrays

end
-- ==== Proof.Agree.lean ====
/-
  THE EQUATION: where the two programs start from the same arguments, the kernel's codes and scales are the reference's.
-/
module

public import proofs.«01_k».proof.Proof.KernelArrays
public import proofs.«01_k».proof.Proof.RefValue

@[expose] public section

noncomputable section

namespace Cert.Requant

open Idealize.ShloMosaic Idealize.ShloMosaic.TcCoe Idealize.SL.Sem

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The codes: both multiply the same values by `2^(-e)`, the reference's `e` from the logarithm, the kernel's from the exponent field. -/
theorem codes_eq (c : Dev KernelIdeal.nD) (h : ReferenceIdeal.Arrays.yM m' c = KernelIdeal.Arrays.yM m c) :
    ReferenceIdeal.Arrays.codes m' c = KernelIdeal.Arrays.codes m c := by
  funext i
  unfold ReferenceIdeal.Arrays.codes KernelIdeal.Arrays.codes
  rw [h, kInv_eq]

/-- The scales: both are `2^e`. -/
theorem scales_eq (c : Dev KernelIdeal.nD) (h : ReferenceIdeal.Arrays.yM m' c = KernelIdeal.Arrays.yM m c) :
    ReferenceIdeal.Arrays.scales m' c = KernelIdeal.Arrays.scales m c := by
  funext i
  unfold ReferenceIdeal.Arrays.scales KernelIdeal.Arrays.scales
  rw [h, kScale_eq]

end Cert.Requant

end
-- ==== Proof.lean ====
/-
  The certificate: both programs and the ideal kernel terminate without fault and keep their arguments, and over the extended
  reals the kernel's codes and scales are the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.KernelIdeal.Value
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The kernel's run: its two results as arrays of the arguments, the arguments unchanged. -/
theorem kernel_run (m : (ℓ : Loc KernelIdeal.nD KernelIdeal.τ KernelIdeal.sig) → Buf (Elt Ideal) ℓ)
    (g : Dev KernelIdeal.nD → PrngReg) :
    θ_run (KernelIdeal.defs (F := Ideal)) (onTc (τ := KernelIdeal.τ) (KernelIdeal.main (F := Ideal))) ⟨m, fun _ => 0, g⟩ fun r =>
      ∀ c : Dev KernelIdeal.nD,
        r.2.mem ((c.tc : Thread KernelIdeal.nD KernelIdeal.τ).loc KernelIdeal.main_v3_0) = KernelIdeal.Arrays.codes m c
        ∧ r.2.mem ((c.tc : Thread KernelIdeal.nD KernelIdeal.τ).loc KernelIdeal.main_v3_1) = KernelIdeal.Arrays.scales m c
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4) :=
  (θ_run KernelIdeal.defs _ _).mono (fun r h c =>
    ⟨(h c).1.trans (KernelIdeal.Arrays.codes_arr m c), (h c).2.1.trans (KernelIdeal.Arrays.scales_arr m c), (h c).2.2⟩)
    (KernelIdeal.Value.run_blocks (F := Ideal) m g)

/-- The reference's run, likewise. -/
theorem reference_run (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩ fun r =>
      ∀ c : Dev ReferenceIdeal.nD,
        r.2.mem ((c.tc : Thread ReferenceIdeal.nD ReferenceIdeal.τ).loc ReferenceIdeal.main_v3_0) = ReferenceIdeal.Arrays.codes m c
        ∧ r.2.mem ((c.tc : Thread ReferenceIdeal.nD ReferenceIdeal.τ).loc ReferenceIdeal.main_v3_1) = ReferenceIdeal.Arrays.scales m c
        ∧ r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4) :=
  (θ_run ReferenceIdeal.defs _ _).mono (fun r h c =>
    ⟨(h c).1.trans (ReferenceIdeal.Arrays.codes_arr m c), (h c).2.1.trans (ReferenceIdeal.Arrays.scales_arr m c), (h c).2.2⟩)
    (ReferenceIdeal.Blocks.run_blocks (F := Ideal) m g)

/-- Kernel and reference leave the same codes and the same scales, from the same arguments. -/
theorem algebraic [KernelIdeal.Facts] [ReferenceIdeal.Facts] : Cert.algebraic_KernelIdeal_ReferenceIdeal := by
  intro m g m' g' _ hargs
  refine ⟨KernelIdeal.Arrays.codes m, KernelIdeal.Arrays.scales m, kernel_run m g, ?_⟩
  refine (θ_run ReferenceIdeal.defs _ _).mono (fun r h c => ?_) (reference_run m' g')
  have hy : ReferenceIdeal.Arrays.yM m' c = KernelIdeal.Arrays.yM m c := by
    obtain ⟨h0, h1, h2, h3, h4⟩ := hargs c
    unfold ReferenceIdeal.Arrays.yM KernelIdeal.Arrays.yM
    rw [h0, h1, h2, h3, h4]
  exact ⟨(h c).1.trans (Requant.codes_eq m m' c hy), (h c).2.1.trans (Requant.scales_eq m m' c hy), (h c).2.2⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
